-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 1]⟩ ⟨2, ![4096, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S16x128 : Shape := ⟨2, ![16, 128]⟩
abbrev S_ : Shape := ⟨0, ![]⟩
abbrev S16x128x1024 : Shape := ⟨3, ![16, 128, 1024]⟩
abbrev S2048x1 : Shape := ⟨2, ![2048, 1]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S16x128, .f32⟩
  | .hbm, ⟨2, _⟩ => ⟨S2048x1, .f32⟩
  | .local _ .vmem, ⟨0, _⟩ => ⟨S2048x1024, .f32⟩
  | .local _ .vmem, ⟨1, _⟩ => ⟨S16x128, .f32⟩
  | .local _ .vmem, ⟨2, _⟩ => ⟨S16x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v17 : BitVec 32 := Scalar.muli v2 c2_i32_11
  let v18 : BitVec 32 := Scalar.addi c0_i32_12 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v19 : BitVec 32 := Scalar.muli v6 c1_i32_13
  let v20 : BitVec 32 := Scalar.addi v18 v19
  v20.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S4096, .f32⟩
  | .hbm, ⟨3, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
# The exchange between the two devices of a mesh row

The four devices form a 2 × 2 mesh. The kernel pairs the two devices of one row of the mesh: each takes the maximum of
every row of its own block, sends the column of maxima to its partner, and keeps the larger of its own and the one that
arrived. Three semaphores a device carry the talk, listed here by number: 0 the barrier, 1 the send, 2 the receive
semaphore. Each has ONE round with ONE payment:

* a device's barrier is paid by its partner, who with it hands over its landing buffer (and the word that its own
  receive semaphore is ready);
* a device's send semaphore is paid by its own transfer, which gives the sent buffer back;
* a device's receive semaphore is paid by its partner's transfer, which gives the device its own landing buffer back,
  now holding the partner's maxima.

Everything here is stated for any float type; the certificate uses it at two.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: one copy of the rounds algebra for the pipeline, one for the exchange -/

abbrev Res : Type := UR sig nD τ × UR sig nD τ

local notation "𝕄" => MT nD τ sig Unit (Elt F) ℕ Res ℕ

/-- Where the pipeline's copy sits. -/
abbrev EP : Emb (UR sig nD τ) (MT nD τ sig Unit (Elt F) ℕ Res ℕ) := embL
/-- Where the exchange's copy sits. -/
abbrev EX : Emb (UR sig nD τ) (MT nD τ sig Unit (Elt F) ℕ Res ℕ) := embR

variable (m : (ℓ : Loc nD τ sig) → Buf (Elt F) ℓ)

/-! ## Partners -/

set_option backward.proofsInPublic true in
/-- The other device of the same mesh row: device numbers 2a and 2a + 1 are partners. -/
def mate (c : Dev nD) : Dev nD := ⟨2 * (c.val / 2) + (1 - c.val % 2), by have := c.isLt; simp only [nD] at this ⊢; omega⟩

/-- Partnership is mutual. -/
theorem mate_mate (c : Dev nD) : mate (mate c) = c := by revert c; decide

/-- Partnership as a rearrangement of the devices. -/
def swap : Dev nD ≃ Dev nD := ⟨mate, mate, mate_mate, mate_mate⟩

/-- The signal is addressed to the partner, -/
theorem signal_to (c : Dev nD) : (⟨k0_dev1 c, Facts₀.k0_dev1_lt c⟩ : Dev nD) = mate c := by revert c; decide
/-- and so is the transfer. -/
theorem send_to (c : Dev nD) : (⟨k0_dev2 c, Facts₀.k0_dev2_lt c⟩ : Dev nD) = mate c := by revert c; decide

/-! ## Buffers and semaphores -/

/-- The staged block of the input, the staged result (first the own maxima, which are sent; then the result), the landing buffer. -/
abbrev inM : Memref sig .tc .vmem S2048x1024 .f32 := Memref.whole cc0_stg0_0
abbrev outM : Memref sig .tc .vmem S16x128 .f32 := Memref.whole cc0_stg1_0
abbrev landM : Memref sig .tc .vmem S16x128 .f32 := Memref.whole cc0_scratch0

abbrev barS : Sem sig := (SemArray.scalar (sig.barrier 0 rfl) : Sems sig S_).sem

/-- The semaphores of the exchange by number. -/
abbrev line : Fin 3 → SemLoc sig := fun | 0 => .reg barS | 1 => .dma cc0_scratch1.sem | 2 => .dma cc0_scratch2.sem
/-- Device `c`'s semaphore number `k`. -/
abbrev cell (c : Dev nD) (k : Fin 3) : GSem nD τ sig := ((c : Thread nD τ), line k)

/-- The three are different. -/
theorem line_inj : Function.Injective line := by decide

/-- Cells are equal only for the same device and number. -/
theorem cell_inj {c d : Dev nD} {j k : Fin 3} (h : cell c j = cell d k) : c = d ∧ j = k :=
  ⟨congrArg (fun g : GSem nD τ sig => g.1.1) h, line_inj (congrArg Prod.snd h)⟩

/-- What one transfer of the maxima credits. -/
abbrev credit : ℕ := (landM : Memref sig .tc .vmem S16x128 .f32).view.dmaCredit
theorem credit_pos : 0 < credit := View.dmaCredit_pos _ (by decide)

/-- What a payment on semaphore `k` is worth. -/
def worth (k : Fin 3) : ℕ := if k = 0 then 1 else credit

theorem worth_send : worth 1 = credit := if_neg (by decide)
theorem worth_recv : worth 2 = credit := if_neg (by decide)

/-! ## Contents -/

abbrev wholeIn : Rect S16x128x1024 := Rect.unit (s := S16x128x1024) ![0, 0, 0] S16x128x1024.size Facts₀.inb_S16x128x1024_S16x128x1024_0_0_0
abbrev wholeOut : Rect S16x128 := Rect.unit (s := S16x128) ![0, 0] S16x128.size Facts₀.inb_S16x128_S16x128_0_0

/-- The staged input seen with its 2048 rows as 16 groups of 128. -/
abbrev inG : Memref sig .tc .vmem S16x128x1024 .f32 :=
  inM.reshape S16x128x1024 Facts₀.reshapes_S2048x1024_S16x128x1024.1 Facts₀.reshapes_S2048x1024_S16x128x1024.2 (Facts₀.hstage0_0 0).contiguous

/-- What the pipeline stages on device `c`: its block of the input. -/
def block (c : Dev nD) : (cc0_stg0_0 : Ref sig .tc).ty.Contents (Elt F) :=
  (win0_0.blk (0 : Fin 1)).view.read (Elt F) (m ((c : Thread nD τ).loc main_arg0))

/-- The maxima of the rows of device `c`'s block: what it sends. -/
def maxima (c : Dev nD) : (cc0_stg1_0 : Ref sig .tc).ty.Contents (Elt F) :=
  k0_pay2 (inG.view.readAt (Elt F) wholeIn.toLoadRect (block m c))

/-- What lands on device `c`: its partner's maxima. -/
def landed (c : Dev nD) : (cc0_scratch0 : Ref sig .tc).ty.Contents (Elt F) := maxima m (mate c)

/-- The kernel's result on device `c`: the larger of its own maxima and its partner's. -/
def result (c : Dev nD) : (cc0_stg1_0 : Ref sig .tc).ty.Contents (Elt F) := k0_pay1 (k0_pay3 (maxima m c)) (landed m c)

/-- A transfer of contents `f` leaves the landing buffer at `f`, whatever it held. -/
theorem transfer_eq (old f : (cc0_scratch0 : Ref sig .tc).ty.Contents (Elt F)) :
    (landM : Memref sig .tc .vmem S16x128 .f32).view.write (Elt F) old ((outM : Memref sig .tc .vmem S16x128 .f32).view.read (Elt F) f) Finset.univ = f := by
  show (View.whole cc0_scratch0).write (Elt F) old ((View.whole cc0_stg1_0).read (Elt F) f) Finset.univ = f
  rw [View.read_whole]
  exact View.write_whole_univ _ _ _

/-- Device `c` holds its landing buffer at `f`. -/
def landAt (c : Dev nD) (f : (cc0_scratch0 : Ref sig .tc).ty.Contents (Elt F)) : sProp 𝕄 :=
  landM.view.loc (c : Thread nD τ) ↦[landM.view.set]{fullShare} f
/-- Device `c` holds its staged result at `f`. -/
def outAt (c : Dev nD) (f : (cc0_stg1_0 : Ref sig .tc).ty.Contents (Elt F)) : sProp 𝕄 :=
  outM.view.loc (c : Thread nD τ) ↦[outM.view.set]{fullShare} f

instance landAt_storable (c : Dev nD) (f) : BI.Storable (upEmb : UEmb _ 𝕄) (landAt (F := F) c f) := by unfold landAt; infer_instance
instance outAt_storable (c : Dev nD) (f) : BI.Storable (upEmb : UEmb _ 𝕄) (outAt (F := F) c f) := by unfold outAt; infer_instance

/-- Both are whole buffers. -/
theorem landAt_eq (c : Dev nD) (f : (cc0_scratch0 : Ref sig .tc).ty.Contents (Elt F)) :
    landAt c f = (((c : Thread nD τ).loc cc0_scratch0) ↦{fullShare} f : sProp 𝕄) := by
  unfold landAt; rw [show (landM : Memref sig .tc .vmem S16x128 .f32).view.set = Finset.univ from View.set_whole _]
theorem outAt_eq (c : Dev nD) (f : (cc0_stg1_0 : Ref sig .tc).ty.Contents (Elt F)) :
    outAt c f = (((c : Thread nD τ).loc cc0_stg1_0) ↦{fullShare} f : sProp 𝕄) := by
  unfold outAt; rw [show (outM : Memref sig .tc .vmem S16x128 .f32).view.set = Finset.univ from View.set_whole _]

/-! ## The schedule -/

/-- What the one payment on device `c`'s semaphore `k` hands it. -/
def gift (c : Dev nD) (k : Fin 3) : sProp 𝕄 :=
  if k = 0 then iprop((∃ f, landAt (mate c) f) ∗ reached EX (cell (mate c) 2) 0)
  else if k = 1 then outAt c (maxima m c) else landAt c (landed m c)

instance gift_storable (c : Dev nD) (k : Fin 3) : BI.Storable (upEmb : UEmb _ 𝕄) (gift (F := F) m c k) := by
  unfold gift; (repeat' split) <;> infer_instance

/-- Which of the three a semaphore is, for one that is none of them the last. -/
def num (s : SemLoc sig) : Fin 3 := if s = line 0 then 0 else if s = line 1 then 1 else 2

/-- The number of a numbered semaphore. -/
theorem num_line : ∀ k : Fin 3, num (line k) = k := by decide

/-- One payment in round 0 of every semaphore of the exchange, none elsewhere and none later. -/
def plan : Rounds.Schedule (GSem nD τ sig) Unit 𝕄 where
  duties g r := if r = 0 ∧ g.1.2 = .tc ∧ g.2 = line (num g.2) then {()} else ∅
  unitless _ := False
  amount g _ _ := worth (num g.2)
  payload g _ _ := gift m g.1.1 (num g.2)
  amount_pos g _ _ _ := by
    unfold worth; split
    · exact Nat.one_pos
    · exact credit_pos

instance plan_storable (g : GSem nD τ sig) (r : ℕ) (d : Unit) :
    BI.Storable (upEmb : UEmb _ 𝕄) ((plan (F := F) m).payload g r d) := by
  show BI.Storable upEmb (gift m g.1.1 (num g.2)); infer_instance

section Plan
variable (c : Dev nD) (k : Fin 3)

/-- A cell's round 0 has the one duty; -/
theorem plan_duties : (plan (F := F) m).duties (cell c k) 0 = {()} := by
  dsimp only [plan]; exact if_pos ⟨rfl, rfl, by rw [num_line]⟩
/-- no later round has any; -/
theorem plan_later (g : GSem nD τ sig) : ∀ r, 1 ≤ r → (plan (F := F) m).duties g r = ∅ :=
  fun r hr => by dsimp only [plan]; exact if_neg (fun h => by omega)
/-- what the duty is worth, -/
theorem plan_amount (u : Unit) : (plan (F := F) m).amount (cell c k) 0 u = worth k := by
  dsimp only [plan]; rw [num_line]
/-- what it hands over, -/
theorem plan_payload (u : Unit) : (plan (F := F) m).payload (cell c k) 0 u = gift m c k := by
  dsimp only [plan]; rw [num_line]
/-- what the round comes to, -/
theorem plan_expect : (plan (F := F) m).expect (cell c k) 0 = worth k := by
  unfold Schedule.expect Schedule.amountOf; rw [plan_duties, Finset.sum_singleton, plan_amount]
/-- and what a wait for the whole round collects. -/
theorem plan_rest : bigSep ((plan (F := F) m).duties (cell c k) 0 \ ∅) (fun u => (plan (F := F) m).payload (cell c k) 0 u) = gift m c k := by
  rw [Finset.sdiff_empty, plan_duties, bigSep_singleton, plan_payload]

end Plan

/-- The three gifts, read. -/
theorem gift_bar (c : Dev nD) : gift m c 0 = iprop((∃ f, landAt (mate c) f) ∗ reached EX (cell (mate c) 2) 0) := if_pos rfl
theorem gift_send (c : Dev nD) : gift m c 1 = outAt c (maxima m c) := rfl
theorem gift_recv (c : Dev nD) : gift m c 2 = landAt c (landed m c) := rfl

/-! ## Debts and the order of waiting -/

/-- What device `c` owes from the launch on: its partner's landed bytes and its partner's barrier unit. -/
def debt (c : Dev nD) : CellTallies nD τ sig Unit := tallyAt (cell (mate c) 2) () credit + tallyAt (cell (mate c) 0) () 1

/-- Every TensorCore semaphore has a level: the barrier 1, the receive semaphore 2, every other 0. -/
def ranked (g : GSem nD τ sig) : Finset Unit := if g.1.2 = .tc then {()} else ∅
def rank (g : GSem nD τ sig) (_ : Unit) : ℕ := if g.2 = line 0 then 1 else if g.2 = line 2 then 2 else 0

theorem ranked_none (g : GSem nD τ sig) (h : g.1.2 ≠ .tc) : ranked g = ∅ := if_neg h
theorem ranked_tc (c : Dev nD) (s : SemLoc sig) : () ∈ ranked ((c : Thread nD τ), s) := by
  rw [show ranked ((c : Thread nD τ), s) = {()} from if_pos rfl]; exact Finset.mem_singleton_self _

theorem rank_bar (c : Dev nD) : rank (cell c 0) () = 1 := if_pos rfl
theorem rank_recv (c : Dev nD) : rank (cell c 2) () = 2 :=
  (if_neg (fun h => absurd (line_inj (a₁ := 2) (a₂ := 0) h) (by decide))).trans (if_pos rfl)

/-- A debt to one cell is positive there only. -/
theorem owed_at {g g' : GSem nD τ sig} {n : ℕ} {u : Unit} (h : 0 < (tallyAt g () n : CellTallies nD τ sig Unit) g' u) : g' = g := by
  rw [tallyAt_apply] at h
  split at h
  · next e => exact e.1
  · exact absurd h (Nat.lt_irrefl 0)

/-- What is owed at the launch is owed to the partner's receive and barrier semaphores. -/
theorem debt_at {c : Dev nD} {g : GSem nD τ sig} {u : Unit} (h : 0 < debt c g u) : g = cell (mate c) 2 ∨ g = cell (mate c) 0 := by
  unfold debt at h
  rw [Pi.add_apply, Finsupp.add_apply] at h
  rcases Nat.add_pos_iff_pos_or_pos.mp h with h | h
  · exact .inl (owed_at h)
  · exact .inr (owed_at h)

/-- A device may wait on its barrier while it still owes its partner the transfer: the receive semaphore ranks above. -/
theorem may_wait_bar (c : Dev nD) :
    (levAts ranked rank : sProp 𝕄) ⊢ MayWait (c : Thread nD τ) (.reg barS) () (tallyAt (cell (mate c) 2) () credit) :=
  MayOwe.of_cut (L := ranked) (lev := rank) 1 (fun p hp => by rw [Finset.mem_singleton.mp hp]; exact ranked_tc c _)
    (fun g u hg => by rw [owed_at hg]; exact ranked_tc _ _)
    (fun p hp => by rw [Finset.mem_singleton.mp hp]; exact (rank_bar c).le)
    (fun g u hg => by rw [owed_at hg, rank_recv]; decide)

/-! ## What a device carries -/

/-- The invariants device `c` opens, under the names `K` of the launch: its own three cells', its partner's barrier's and
    receive cell's. -/
def invs (K : GSem nD τ sig → ℕ) (c : Dev nD) : sProp 𝕄 :=
  iprop((cellInv EX (plan m) (K (cell c 0)) (cell c 0) ∗ cellInv EX (plan m) (K (cell c 1)) (cell c 1) ∗ cellInv EX (plan m) (K (cell c 2)) (cell c 2))
    ∗ cellInv EX (plan m) (K (cell (mate c) 0)) (cell (mate c) 0) ∗ cellInv EX (plan m) (K (cell (mate c) 2)) (cell (mate c) 2))

instance (K : GSem nD τ sig → ℕ) (d : Dev nD) : BI.Persistent (invs m K d) := by
  rw [invs]; infer_instance

/-- The rights to make the three payments device `c` makes. -/
def rights (c : Dev nD) : sProp 𝕄 :=
  iprop(dutyTok EX (cell (mate c) 0) 0 () ∗ dutyTok EX (cell c 1) 0 () ∗ dutyTok EX (cell (mate c) 2) 0 ())

/-- From the launch to the region: the invariants, the place on the barrier, the right to open the two cells whose
    counters the region brings, the payments. -/
def dealt (K : GSem nD τ sig → ℕ) (c : Dev nD) : sProp 𝕄 :=
  iprop(invs m K c ∗ atPos EX (cell c 0) 0 ∅ 0 ∗ (openTok EX (cell c 1) ∗ openTok EX (cell c 2)) ∗ reached EX (cell (mate c) 0) 0 ∗ rights c)

/-- In the region, the two cells opened. -/
def opened (K : GSem nD τ sig → ℕ) (c : Dev nD) : sProp 𝕄 :=
  iprop(invs m K c ∗ (atPos EX (cell c 0) 0 ∅ 0 ∗ atPos EX (cell c 1) 0 ∅ 0 ∗ atPos EX (cell c 2) 0 ∅ 0)
    ∗ (reached EX (cell (mate c) 0) 0 ∗ reached EX (cell c 1) 0 ∗ reached EX (cell c 2) 0) ∗ rights c)

/-- What a device collects of the launch: credit for its barrier's unit and for its landed bytes. -/
def claims (c : Dev nD) : sProp 𝕄 := iprop(cred (tallyAt (cell c 0) () 1) ∗ cred (tallyAt (cell c 2) () credit))

/-- A cell after its one round closes, its counter back at zero. -/
theorem close (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (plan_later m g)

end Cert.RowMax

end
-- ==== Proof.Body.lean ====
/-
# The kernel's body on one device

The body is run symbolically, one rule an effect in program order: signal the partner's barrier (handing over the landing
buffer), reduce the own block, wait for the partner, send the maxima, wait for both transfers, combine. `entry` is what
the device holds before, `finish` what it holds after.
-/
module

public import proofs.«01_k».proof.Proof.Protocol

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Res ℕ

variable (m : (ℓ : Loc nD τ sig) → Buf (Elt F) ℓ)

/-- The kernel has no loop to bound. -/
abbrev noLoops : Variants := Variants.none

/-! ## Loads and stores of whole buffers -/

/-- Both offsets of a whole buffer are zero. -/
theorem origin : (![0, 0] : Fin 2 → Nat) = fun _ => 0 := funext fun a => by fin_cases a <;> rfl

/-- Loading the whole staged result reads its contents; -/
theorem load_out (f : (cc0_stg1_0 : Ref sig .tc).ty.Contents (Elt F)) :
    (outM : Memref sig .tc .vmem S16x128 .f32).view.readAt (Elt F) wholeOut.toLoadRect f = f :=
  Memref.readAt_unit_zero (Elt F) cc0_stg1_0 origin _ f
/-- loading the whole landing buffer reads its contents; -/
theorem load_land (f : (cc0_scratch0 : Ref sig .tc).ty.Contents (Elt F)) :
    (landM : Memref sig .tc .vmem S16x128 .f32).view.readAt (Elt F) wholeOut.toLoadRect f = f :=
  Memref.readAt_unit_zero (Elt F) cc0_scratch0 origin _ f
/-- storing the whole staged result replaces its contents. -/
theorem store_out (f w : (cc0_stg1_0 : Ref sig .tc).ty.Contents (Elt F)) :
    ((outM : Memref sig .tc .vmem S16x128 .f32).access wholeOut : View sig .tc _ _ _).write (Elt F) f w Finset.univ = w :=
  Memref.write_access_unit_zero_univ (Elt F) cc0_stg1_0 origin _ f w

/-! ## The transfer -/

section Run
variable (K : GSem nD τ sig → ℕ) (c : Dev nD)

/-- Sending the maxima to device `n`, the partner: the two buffers and the two payments go in, the debt is paid, and a
    credit for the send semaphore comes out. -/
theorem wp_transfer (n : Dev nD) (hn : n = mate c) {hsc : (landM : Memref sig (Dev.tc n : Thread nD τ).2.kind .vmem S16x128 .f32).view.ref.isScScratch = false}
    {hsrc : (outM : Memref sig .tc .vmem S16x128 .f32).view.WordExact} {hdst : (landM : Memref sig .tc .vmem S16x128 .f32).view.WordExact}
    {hsem : DmaTarget.Typed .vmem (.dma cc0_scratch2.sem) (.remote (Dev.tc n : Thread nD τ) (landM : Memref sig .tc .vmem S16x128 .f32) (.dma cc0_scratch1.sem) hsc)}
    {α : Type} {Q : α → sProp 𝕄} {k : PUnit → Prog (TpuEff nD τ sig (Elt F) Λ₀ .tc) α}
    (old : (cc0_scratch0 : Ref sig .tc).ty.Contents (Elt F)) (W : Waits sig Unit) :
    iprop(cellInv EX (plan m) (K (cell c 1)) (cell c 1) ∗ cellInv EX (plan m) (K (cell (mate c) 2)) (cell (mate c) 2)
        ∗ outAt c (maxima m c) ∗ landAt (mate c) old
        ∗ owes (c : Thread nD τ) (tallyAt (cell (mate c) 2) () credit) W
        ∗ dutyTok EX (cell c 1) 0 () ∗ reached EX (cell c 1) 0
        ∗ dutyTok EX (cell (mate c) 2) 0 () ∗ reached EX (cell (mate c) 2) 0)
      ⊢ iprop(((cred (tallyAt (cell c 1) () credit) ∗ owes (c : Thread nD τ) 0 W) -∗ wp frame (wpE (defs₀ (F := F)) noLoops (c : Thread nD τ) none) Set.univ (k ⟨⟩) Q)
          -∗ wp frame (wpE (defs₀ (F := F)) noLoops (c : Thread nD τ) none) Set.univ
              (.op (.enqueueDma outM (.remote (Dev.tc n : Thread nD τ) landM (.dma cc0_scratch1.sem) hsc) (.dma cc0_scratch2.sem) hsrc hdst hsem) k) Q) := by
  subst hn
  have hs : () ∈ (plan (F := F) m).duties (cell c 1) 0 := by rw [plan_duties]; exact Finset.mem_singleton_self _
  have hr : () ∈ (plan (F := F) m).duties (cell (mate c) 2) 0 := by rw [plan_duties]; exact Finset.mem_singleton_self _
  have ps : outAt c (maxima m c) ⊢ (plan m).payload (cell c 1) 0 () := by rw [plan_payload, gift_send]
  have pr : landAt (mate c) (landM.view.write (Elt F) old (outM.view.read (Elt F) (maxima m c)) Finset.univ) ⊢ (plan m).payload (cell (mate c) 2) 0 () := by
    rw [plan_payload, gift_recv, transfer_eq, landed, mate_mate]
  unfold outAt landAt at *
  exact Rounds.wp_send_pointsTo noLoops EX (plan m) (c : Thread nD τ) none (c' := (mate c : Thread nD τ)) (src := outM) (dst := landM)
    (sS := .dma cc0_scratch1.sem) (sem := .dma cc0_scratch2.sem) (κ₁ := K (cell c 1)) (κ₂ := K (cell (mate c) 2))
    (r₁ := 0) (r₂ := 0) (d₁ := ()) (d₂ := ()) (fd := old) hs hr () () credit rfl
    ((plan_amount m c 1 ()).trans worth_send) ((plan_amount m (mate c) 2 ()).trans worth_recv) 0 (zero_add _).symm (W := W) ps pr

/-! ## The body -/

/-- The staged input in the device's hands. -/
abbrev inAt : sProp 𝕄 := ((c : Thread nD τ).loc cc0_stg0_0) ↦{fullShare} block m c

/-- Before the body: the exchange's state, the credits, the levels, the three buffers, the debt. -/
def entry (W : Waits sig Unit) : sProp 𝕄 :=
  iprop(opened m K c ∗ claims c ∗ levAts ranked rank ∗ (∃ f, landAt c f) ∗ inAt m c ∗ (∃ f, outAt c f) ∗ owes (c : Thread nD τ) (debt c) W)

/-- After it: the three counters at zero, the landing buffer with the partner's maxima, the input as it was, the result,
    no debt. -/
def finish : sProp 𝕄 :=
  iprop((semVal (cell c 1) 0 ∗ semVal (cell c 2) 0) ∗ semVal (cell c 0) 0 ∗ landAt c (landed m c) ∗ inAt m c ∗ outAt c (result m c)
    ∗ ∃ W, owes (c : Thread nD τ) 0 W)

set_option maxHeartbeats 1600000 in
/-- The body runs from `entry` to `finish`. -/
theorem body_run (W : Waits sig Unit) (Kt : PUnit → sProp 𝕄) :
    iprop(entry m K c W ∗ (finish m c -∗ Kt ⟨⟩))
      ⊢ wp frame (wpE (defs₀ (F := F)) noLoops c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold entry opened invs rights claims debt
  iintro ⟨⟨⟨⟨⟨#Ib, #Is, #Ir⟩, #Ipb, #Ipr⟩, ⟨Pb, Ps, Pr⟩, ⟨#Rpb, #Rs, #Rr⟩, Db, Ds, Dr⟩, ⟨Cb, Cr⟩, #Hlev, ⟨%f0, Hland⟩, Hin, ⟨%f1, Hout⟩, HO⟩, Hk⟩
  simp only [signal_to c]
  -- the signal to the partner's barrier, the landing buffer with it
  iapply (Rounds.wp_signal noLoops EX (plan m) (c : Thread nD τ) none (dst := (mate c : Thread nD τ)) (κ := K (cell (mate c) 0))
      (d := ()) (by rw [show ((mate c : Thread nD τ), SemLoc.reg barS) = cell (mate c) 0 from rfl, plan_duties]; exact Finset.mem_singleton_self _)
      ((plan_amount m (mate c) 0 ()).trans (by decide)) () (tallyAt (cell (mate c) 2) () credit) rfl)
    $$ [HO Db Hland]
  · isplitr; · iexact Ipb
    isplitl [HO]; · iexact HO
    isplitl [Db]; · iexact Db
    isplitl [Hland]
    · rw [show ((mate c : Thread nD τ), SemLoc.reg barS) = cell (mate c) 0 from rfl, plan_payload, gift_bar, mate_mate]
      isplitl [Hland]; · iexists f0; iexact Hland
      iexact Rr
    · iexact Rpb
  iintro HO
  -- the own block is loaded and its maxima stored
  ihave Hin := (show inAt m c ⊢ (inM.view.loc (c : Thread nD τ) ↦[Finset.univ]{fullShare} block m c : sProp 𝕄) from BI.Entails.refl _) $$ Hin
  iapply (wp_load noLoops (c : Thread nD τ) none Set.univ (m := inG) (Finset.subset_univ _)) $$ Hin; iintro Hin
  ihave Hout := (Entails.of_eq (outAt_eq c f1)) $$ Hout
  iapply (wp_load noLoops (c : Thread nD τ) none Set.univ (m := outM) (Finset.subset_univ _)) $$ Hout; iintro Hout
  iapply (wp_store noLoops (c : Thread nD τ) none Set.univ (m := outM) (r := wholeOut) (Mk := Finset.univ) (Finset.subset_univ _)) $$ Hout; iintro Hout
  rw [store_out, show k0_pay2 (View.readAt (Elt F) inG.view wholeIn.toLoadRect (block m c)) = maxima m c from rfl]
  -- the wait on the own barrier: the partner's landing buffer comes with it
  iapply (Rounds.wp_wait_rest_token noLoops EX (plan m) (c : Thread nD τ) none (κ := K (cell c 0))
      (wpE_semWait_eq noLoops (c : Thread nD τ) none Set.univ) (Set.mem_univ _) () (O := tallyAt (cell (mate c) 2) () credit) (W := W) (R := 0) (m := 0) (T := ∅)
      (by rw [show ((c : Thread nD τ), SemLoc.reg barS) = cell c 0 from rfl, plan_expect]; decide)) $$ [Cb HO Pb]
  · isplitr; · iexact Ib
    isplitl [Cb]; · iexact Cb
    isplitl [HO]; · iexact HO
    isplitr; · iapply (may_wait_bar c); iexact Hlev
    iexact Pb
  iintro ⟨HO, Pb, -, Hgift⟩
  ihave Hgift := (Entails.of_eq ((plan_rest m c 0).trans (gift_bar m c))) $$ Hgift
  icases Hgift with ⟨⟨%f2, Hfar⟩, #Rpr⟩
  -- the transfer
  ihave Hout := (show ((outM.access wholeOut : View sig .tc _ _ _).loc (c : Thread nD τ) ↦{fullShare} maxima m c) ⊢ outAt c (maxima m c) from
    Entails.of_eq (outAt_eq c (maxima m c)).symm) $$ Hout
  iapply (wp_transfer m K c _ (send_to c) f2 (insert (SemLoc.reg barS, ()) W)) $$ [Hout Hfar HO Ds Dr]
  · isplitr; · iexact Is
    isplitr; · iexact Ipr
    isplitl [Hout]; · iexact Hout
    isplitl [Hfar]; · iexact Hfar
    isplitl [HO]; · iexact HO
    isplitl [Ds]; · iexact Ds
    isplitr; · iexact Rs
    isplitl [Dr]; · iexact Dr
    iexact Rpr
  iintro ⟨Cs, HO⟩
  -- the wait on the send semaphore: the sent buffer is back
  iapply (Rounds.wp_wait_rest_token noLoops EX (plan m) (c : Thread nD τ) none (κ := K (cell c 1))
      (wpE_waitDma2_eq noLoops (c : Thread nD τ) none Set.univ) (Set.mem_univ _) () (O := 0) (W := insert (SemLoc.reg barS, ()) W) (R := 0) (m := 0) (T := ∅)
      (by rw [Nat.zero_add]; exact ((plan_expect m c 1).trans worth_send).symm)) $$ [Cs HO Ps]
  · isplitr; · iexact Is
    isplitl [Cs]; · iexact Cs
    isplitl [HO]; · iexact HO
    isplitr; · rw [MayWait_zero]; iempintro
    iexact Ps
  iintro ⟨HO, Ps, -, Hgift⟩
  ihave Hout := (Entails.of_eq ((plan_rest m c 1).trans ((gift_send m c).trans (outAt_eq c (maxima m c))))) $$ Hgift
  -- the wait on the receive semaphore: the landing buffer is back, with the partner's maxima
  iapply (Rounds.wp_wait_rest_token noLoops EX (plan m) (c : Thread nD τ) none (κ := K (cell c 2))
      (wpE_waitDma2_eq noLoops (c : Thread nD τ) none Set.univ) (Set.mem_univ _) () (O := 0)
      (W := insert (SemLoc.dma cc0_scratch1.sem, ()) (insert (SemLoc.reg barS, ()) W)) (R := 0) (m := 0) (T := ∅)
      (by rw [Nat.zero_add]; exact ((plan_expect m c 2).trans worth_recv).symm)) $$ [Cr HO Pr]
  · isplitr; · iexact Ir
    isplitl [Cr]; · iexact Cr
    isplitl [HO]; · iexact HO
    isplitr; · rw [MayWait_zero]; iempintro
    iexact Pr
  iintro ⟨HO, Pr, -, Hgift⟩
  ihave Hland := (Entails.of_eq ((plan_rest m c 2).trans ((gift_recv m c).trans (landAt_eq c (landed m c))))) $$ Hgift
  -- the combination
  iapply (wp_load noLoops (c : Thread nD τ) none Set.univ (m := outM) (Finset.subset_univ _)) $$ Hout; iintro Hout
  rw [load_out]
  iapply (wp_load noLoops (c : Thread nD τ) none Set.univ (m := landM) (Finset.subset_univ _)) $$ Hland; iintro Hland
  rw [load_land]
  iapply (wp_load noLoops (c : Thread nD τ) none Set.univ (m := outM) (Finset.subset_univ _)) $$ Hout; iintro Hout
  iapply (wp_store noLoops (c : Thread nD τ) none Set.univ (m := outM) (r := wholeOut) (Mk := Finset.univ) (Finset.subset_univ _)) $$ Hout; iintro Hout
  rw [store_out, wp_ret]
  -- the three cells close, their counters at zero
  imod (close m (K (cell c 1)) (cell c 1)) $$ [Ps] with Zs
  · isplitr; · iexact Is
    iexact Ps
  imod (close m (K (cell c 2)) (cell c 2)) $$ [Pr] with Zr
  · isplitr; · iexact Ir
    iexact Pr
  imod (close m (K (cell c 0)) (cell c 0)) $$ [Pb] with Zb
  · isplitr; · iexact Ib
    iexact Pb
  imodintro
  iapply Hk
  unfold finish
  isplitl [Zs Zr]; · isplitl [Zs] <;> iassumption
  isplitl [Zb]; · iexact Zb
  isplitl [Hland]; · rw [landAt_eq]; iexact Hland
  isplitl [Hin]; · iexact Hin
  isplitl [Hout]; · rw [outAt_eq]; iexact Hout
  iexists _; iexact HO

end Run

end Cert.RowMax

end
-- ==== Proof.Region.lean ====
/-
# The kernel's region

The pipeline stages a device's block of the input, runs the body, and writes the staged result back. Here: the proof data
of that pipeline, the body's obligation from `body_run`, what the arrays hold afterwards, and the region as a segment of
the whole program.
-/
module

public import proofs.«01_k».proof.Proof.Body
public import proofs.«01_k».proof.Proof.Gen.KernelIdeal.Points
public import proofs.«01_k».proof.Proof.Gen.KernelIdeal.Frame
public import Idealize.ShloMosaic.Lib.Pipeline.ValueKit.Geometry

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ)

/-! ## The proof data -/

/-- The device's generator register, at whatever it holds: the kernel draws nothing. -/
abbrev anyPrng (c : Dev nD) : sProp 𝕄 := iprop(∃ r, prngReg c r)

/-- What the region takes over from the launch: the exchange's state with the two scoped cells opened, the credits, the levels. -/
def ready (c : Dev nD) : sProp 𝕄 := iprop((∃ K, opened m K c) ∗ claims c ∗ levAts ranked rank)

/-- Before the one point, -/
def before (c : Dev nD) : sProp 𝕄 := iprop(ready m c ∗ (∃ f, landAt c f) ∗ anyPrng c)
/-- and after it. -/
def after (c : Dev nD) : sProp 𝕄 :=
  iprop((semVal (cell c 1) 0 ∗ semVal (cell c 2) 0) ∗ semVal (cell c 0) 0 ∗ landAt c (landed m c) ∗ anyPrng c)

/-- The pipeline's proof data on device `c`: the input's block stays, the result is `result`, the debt is paid in the one point. -/
def dat (c : Dev nD) : Dat τ (Elt F) Unit ℕ Res ℕ cfg0 c where
  A w := m ((cfg0.win w).arr.view.loc (c : Thread nD τ))
  after w _ := match w with
    | ⟨0, _⟩ => block m c
    | ⟨1, _⟩ => result m c
  Φ t := match t with
    | ⟨0, _⟩ => before m c
    | ⟨_ + 1, _⟩ => after m c
  q _ := fullShare
  owed t := match t with
    | ⟨0, _⟩ => debt c
    | ⟨_ + 1, _⟩ => 0

/-- The program has one pipeline and its tables have one admissible contents. -/
abbrev tables : (p : Fin 1) → (pcfgs (F := F) p).Adm := fun p => (cfgs p).toPCfg_adm
def dats : (p : Fin 1) → (c : Dev nD) → Dat τ (Elt F) Unit ℕ Res ℕ (Pipeline.pin (pcfgs (F := F)) tables p) c
  | ⟨0, _⟩ => dat m

/-- Every staging buffer is held whole. -/
theorem dat_share (c : Dev nD) (w : Fin cfg0.W) : (dat m c).share w = fullShare := by unfold Dat.share; split <;> rfl

/-! ## The body's obligation -/

/-- A staging buffer owned at `X` is a points-to of contents `X`. -/
theorem owns_stage (c : Dev nD) (b : Ref sig .tc) (X : b.ty.Contents (Elt F)) :
    (owns (Ix := Unit) (Name := ℕ) (U := Res) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The right-hand side of `owns_stage`, named. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The staged input, at the point, is the device's block. -/
theorem before_in (c : Dev nD) (d) : (dat m c).before (0 : Fin 2) t0_0 d = block m c := by
  unfold Dat.before; rw [if_pos (fetch0_0 t0_0)]; rfl

/-- What the obligation starts from, and what it ends in. -/
def obligPre (c : Dev nD) : sProp 𝕄 :=
  iprop(before m c ∗ (dat m c).owesAt () t0_0.castSucc
    ∗ (∃ d, staged c cc0_stg0_0 ((dat m c).before (0 : Fin 2) t0_0 d)) ∗ (∃ d, staged c cc0_stg1_0 ((dat m c).before (1 : Fin 2) t0_0 d)))
def obligPost (c : Dev nD) : sProp 𝕄 :=
  iprop(after m c ∗ (dat m c).owesAt () t0_0.succ ∗ staged c cc0_stg0_0 (block m c) ∗ staged c cc0_stg1_0 (result m c))

/-- The body obligation on device `c`. -/
theorem body_obligation (c : Dev nD) : BodyObligation (dat (F := F) m c) (defs₀ (F := F)) noLoops () Set.univ := fun t => by
  rw [fin_N0 t, bigSep_W0, bigSep_W0]
  simp only [owns_stage]
  show obligPre m c ⊢ wp frame (wpE (defs₀ (F := F)) noLoops c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => obligPost m c)
  unfold obligPre before ready
  iintro ⟨⟨⟨⟨%K, Hx⟩, Hc, Hl⟩, Hland, Hprng⟩, HO, ⟨%d0, %g0, %e0, Hin⟩, ⟨%d1, %g1, -, Hout⟩⟩
  obtain rfl := e0.trans (before_in m c d0)
  unfold Dat.owesAt Pipeline.owesWithin
  rw [show (dat m c).owed t0_0.castSucc = debt c from rfl]
  icases HO with ⟨%W, -, HO⟩
  iapply (body_run m K c W _)
  isplitr [Hprng]
  · unfold entry
    isplitl [Hx]; · iexact Hx
    isplitl [Hc]; · iexact Hc
    isplitl [Hl]; · iexact Hl
    isplitl [Hland]; · iexact Hland
    isplitl [Hin]; · iexact Hin
    isplitl [Hout]; · iexists g1; rw [outAt_eq]; iexact Hout
    iexact HO
  unfold finish
  iintro ⟨Hz, Hzb, Hland, Hin, Hout, ⟨%W', HO⟩⟩
  unfold obligPost after Dat.owesAt Pipeline.owesWithin
  rw [show (dat m c).owed t0_0.succ = 0 from rfl]
  isplitl [Hz Hzb Hland Hprng]
  · isplitl [Hz]; · iexact Hz
    isplitl [Hzb]; · iexact Hzb
    isplitl [Hland] <;> iassumption
  isplitl [HO]
  · iexists W'
    isplitr; · ipureintro; exact fun _ _ => Or.inl trivial
    iexact HO
  isplitl [Hin]
  · iexists _; isplitr; · (ipureintro; rfl)
    iexact Hin
  iexists _; isplitr; · (ipureintro; rfl)
  iapply (Entails.of_eq (outAt_eq c (result m c))) $$ Hout

/-! ## The arrays before and after -/

/-- A device's buffers when the region is entered: as launched. -/
abbrev contents₀ (c : Dev nD) : Valuation τ sig (Elt F) := fun b => m (c, b)
/-- When it is left: the result array at `result`. -/
def contents₁ (c : Dev nD) : Valuation τ sig (Elt F) := Function.update (contents₀ m c) (Proc.devRef .tc main_v1) (result m c)

/-- The one point's block starts at the origin, of the input -/
theorem index_in : win0_0.index t0_0 = ![0, 0] := by decide
/-- and of the result. -/
theorem index_out : win0_1.index t0_0 = ![0, 0] := by decide

/-- So the input's block is the whole input array of the device, -/
theorem emb_in (y : S2048x1024.Idx) : (win0_0.blk t0_0).view.emb y = y := by
  blk_ext [index_in]
/-- and the result's block the whole result array. -/
theorem emb_out (y : S16x128.Idx) : (win0_1.blk t0_0).view.emb y = y := by
  blk_ext [index_out]

/-- What is staged is the device's input. -/
theorem block_eq (c : Dev nD) : block m c = m ((c : Thread nD τ).loc main_arg0) := by
  funext y
  show iblk m c 0 t0_0 y = _
  blk_simp [iblk]
  rw [emb_in]; rfl

/-- The result array ends at `result`. -/
theorem arr_out (c : Dev nD) : (dat m c).arrAt (1 : Fin 2) cfg0.N = result m c := by
  refine (dat m c).arrAt_eq_of_covers (1 : Fin 2) _ (by decide +kernel) fun t hf y => ?_
  rw [fin_N0 t]
  blk_simp
  rw [emb_out]; rfl

/-- No window's array but the result's is touched. -/
theorem contents₁_of_ne (c : Dev nD) {b : DevRef τ sig} (h : b ≠ Proc.devRef .tc main_v1) : contents₁ m c b = m (c, b) :=
  Function.update_of_ne h _ _
theorem contents₁_out (c : Dev nD) : contents₁ m c (Proc.devRef .tc main_v1) = result m c := Function.update_self _ _ _

/-- Each window's array, after the region, is at `contents₁`. -/
theorem arr_after (c : Dev nD) : ∀ w : Fin 2, (dat m c).arrAt w cfg0.N = contents₁ m c (Proc.devRef .tc (Pipeline.arrRef spec0 w))
  | 0 => ((dat m c).arrAt_in 0 rfl _).trans (contents₁_of_ne m c (b := Proc.devRef .tc main_arg0) (by decide)).symm
  | 1 => (arr_out m c).trans (contents₁_out m c).symm

/-! ## The region as a segment -/

/-- The two semaphores the region brings. -/
abbrev own : Fin 2 → SemLoc sig := fun | 0 => line 1 | 1 => line 2

theorem own_facts : Pipeline.OwnSemFacts spec0 own := by decide

theorem own_zero (c : Dev nD) :
    (Pipeline.ownSems0 (Ix := Unit) (Name := ℕ) (U := Res) (Lvl := ℕ) (Val := Elt F) (τ := τ) own c : sProp 𝕄)
      = iprop(semVal (cell c 1) 0 ∗ semVal (cell c 2) 0) :=
  BI.bigSep_fin_two (fun k : Fin 2 => (semVal ((c : Thread nD τ), own k) 0 : sProp 𝕄))

/-- What the launch leaves with a device for the region, -/
def kept (c : Dev nD) : sProp 𝕄 := iprop((∃ K, dealt m K c) ∗ claims c)
/-- and what the region leaves: the barrier's counter at zero. -/
def left (c : Dev nD) : sProp 𝕄 := semVal (cell c 0) 0

/-- Entering, the two cells whose counters the region brings are opened. -/
theorem enter (c : Dev nD) : iprop(kept m c ∗ Pipeline.ownSems0 own c ∗ levAts ranked rank) ⊢ (|={Set.univ}=> ready m c : sProp 𝕄) := by
  rw [own_zero]
  unfold kept ready dealt
  iintro ⟨⟨⟨%K, #HI, Pb, ⟨Os, Or⟩, #Rpb, Hd⟩, Hc⟩, ⟨Zs, Zr⟩, #Hl⟩
  ihave HI' := (show invs m K c ⊢ iprop(cellInv EX (plan m) (K (cell c 1)) (cell c 1) ∗ cellInv EX (plan m) (K (cell c 2)) (cell c 2)) from by
    unfold invs
    iintro ⟨⟨-, #Is, #Ir⟩, -⟩
    isplitr; · iexact Is
    iexact Ir) $$ HI
  icases HI' with ⟨#Is, #Ir⟩
  imod (Rounds.cell_open EX (plan m) (g := cell c 1) (Set.mem_univ (K (cell c 1)))) $$ [Os Zs] with ⟨Ps, #Rs⟩
  · isplitr; · iexact Is
    isplitl [Os] <;> iassumption
  imod (Rounds.cell_open EX (plan m) (g := cell c 2) (Set.mem_univ (K (cell c 2)))) $$ [Or Zr] with ⟨Pr, #Rr⟩
  · isplitr; · iexact Ir
    isplitl [Or] <;> iassumption
  imodintro
  isplitl [Pb Ps Pr Hd]
  · iexists K
    unfold opened
    isplitr; · iexact HI
    isplitl [Pb Ps Pr]
    · isplitl [Pb]; · iexact Pb
      isplitl [Ps] <;> iassumption
    isplitr
    · isplitr; · iexact Rpb
      isplitr; · iexact Rs
      iexact Rr
    iexact Hd
  isplitl [Hc]; · iexact Hc
  iexact Hl

/-- The body's state at its start, of what the region brings, -/
theorem starts (c : Dev nD) : iprop(Pipeline.scopedRest spec0 c ∗ (∃ r, prngReg c r) ∗ StableHlo.held (c.tc : Thread nD τ) ∅ (contents₀ m c) ∗ ready m c)
    ⊢ (before m c : sProp 𝕄) := by
  rw [scopedRest0_eq]
  unfold before
  iintro ⟨⟨%f, Hs⟩, Hp, -, Hr⟩
  isplitl [Hr]; · iexact Hr
  isplitl [Hs]; · iexists f; iapply (Entails.of_eq (landAt_eq c f).symm) $$ Hs
  iexact Hp

/-- and its state at its end, given back. -/
theorem ends (c : Dev nD) : (after m c : sProp 𝕄)
    ⊢ iprop(Pipeline.scopedRest spec0 c ∗ (∃ r, prngReg c r) ∗ StableHlo.held (c.tc : Thread nD τ) ∅ (contents₁ m c) ∗ Pipeline.ownSems0 own c ∗ left c) := by
  rw [scopedRest0_eq, own_zero]
  unfold after left StableHlo.held
  rw [BI.bigSep_empty]
  iintro ⟨Hz, Hzb, Hs, Hp⟩
  isplitl [Hs]; · iexists _; iapply (Entails.of_eq (landAt_eq c (landed m c))) $$ Hs
  isplitl [Hp]; · iexact Hp
  isplitr; · iempintro
  isplitl [Hz]; · iexact Hz
  iexact Hzb

/-- Whatever a device still owes ranks above its staging semaphores. -/
theorem debts_rank (c : Dev nD) (t : Fin (cfg0.N + 1)) (g : GSem nD τ sig) (u : Unit) (h : 0 < (dat (F := F) m c).owed t g u) :
    u ∈ ranked g ∧ 0 < rank g u := by
  match t with
  | ⟨0, _⟩ =>
    rcases debt_at (c := c) h with rfl | rfl
    · exact ⟨ranked_tc _ _, by rw [rank_recv]; decide⟩
    · exact ⟨ranked_tc _ _, by rw [rank_bar]; decide⟩
  | ⟨_ + 1, _⟩ => exact absurd h (Nat.lt_irrefl 0)

/-- The staging semaphores rank lowest. -/
theorem stage_rank : ∀ (w : Fin 2) (s : Fin (spec0 w).nbuf) (c : Dev nD), rank ((c : Thread nD τ), .dma ((spec0 w).sem s)) () ≤ 0 := by decide

/-- The device's buffers that are no window's array. -/
abbrev others : Finset (DevRef τ sig) := Pipeline.ucRefs τ sig \ Pipeline.arrRefs (τ := τ) spec0

local notation "ℝ𝕊" => Pipeline.RegionSeg (pcfgs (F := F)) tables (dats m) () defs₀ noLoops ranked rank

set_option backward.isDefEq.respectTransparency.types false in
/-- The region. -/
def region : ℝ𝕊 0 :=
  Pipeline.RegionSeg.ofTalk (pcfgs (F := F)) tables (dats m) () defs₀ noLoops ranked rank 0 own own_facts
    ∅ others (Finset.empty_subset _) launch0.toP rfl (fun c => (body_obligation m c).loose)
    (fun _ => 0) debt (fun c => (zero_add _).symm) (fun _ => rfl) (fun _ => rfl) (fun c w => dat_share m c w)
    (contents₀ m) (contents₁ m)
    (fun c b hb => contents₁_of_ne m c (fun e => by subst e; exact absurd hb (by decide)))
    (kept m) left (ready m) left (enter m) (starts m) (ends m)
    (fun c => by iintro H; imodintro; iexact H)
    (fun _ => 0)
    ⟨fun c w s => ranked_tc c _, fun c w s => stage_rank w s c, fun c t g u h => debts_rank m c t g u h⟩
    (fun _ => iprop(emp))
    (fun c w => rfl) (fun c w => arr_after m c w)

/-- The device's unscoped buffers are the windows' arrays and the others. -/
theorem held_split (c : Dev nD) (V : Valuation τ sig (Elt F)) :
    (StableHlo.held (c : Thread nD τ) (Pipeline.ucRefs τ sig) V : sProp 𝕄)
      = iprop(StableHlo.held (c : Thread nD τ) (Pipeline.arrRefs (τ := τ) spec0) V ∗ StableHlo.held (c : Thread nD τ) others V) :=
  StableHlo.held_sub_split _ (Pipeline.arrRefs_sub_ucRefs _ winFacts0.arr_unscoped) V

/-- The region is entered from all unscoped buffers as launched, the exchange's state and the debt, -/
theorem region_pre (c : Dev nD) :
    iprop(StableHlo.held (c : Thread nD τ) (Pipeline.ucRefs τ sig) (contents₀ m c) ∗ (∃ r, prngReg c r) ∗ kept m c ∗ ∃ W, owes (c : Thread nD τ) (debt c) W)
      ⊢ (region m).pre c := by
  show _ ⊢ iprop(StableHlo.held (c.tc : Thread nD τ) (Pipeline.arrRefs (τ := τ) spec0) (contents₀ m c) ∗ (∃ r, prngReg c r)
    ∗ (StableHlo.held (c.tc : Thread nD τ) others (contents₀ m c) ∗ emp) ∗ kept m c ∗ ∃ W, owes (c : Thread nD τ) (0 + debt c) W)
  rw [held_split, zero_add]
  iintro ⟨⟨Ha, Ho⟩, Hp, Hk, HO⟩
  isplitl [Ha]; · iexact Ha
  isplitl [Hp]; · iexact Hp
  isplitl [Ho]
  · isplitl [Ho]; · iexact Ho
    iempintro
  isplitl [Hk] <;> iassumption

/-- and left with all unscoped buffers, the result array changed, the barrier at zero, and nothing owed. -/
theorem region_post (c : Dev nD) : (region m).post c
    ⊢ iprop(StableHlo.held (c : Thread nD τ) (Pipeline.ucRefs τ sig) (contents₁ m c) ∗ (left c ∗ ∃ W, owes (c : Thread nD τ) (0 : CellTallies nD τ sig Unit) W)) := by
  show iprop(StableHlo.held (c.tc : Thread nD τ) (Pipeline.arrRefs (τ := τ) spec0) (contents₁ m c) ∗ (∃ r, prngReg c r)
    ∗ (StableHlo.held (c.tc : Thread nD τ) others (contents₁ m c) ∗ emp) ∗ left c ∗ ∃ W, owes (c : Thread nD τ) (0 : CellTallies nD τ sig Unit) W) ⊢ _
  rw [held_split]
  iintro ⟨Ha, -, ⟨Ho, -⟩, Hl, HO⟩
  isplitl [Ha Ho]; · isplitl [Ha] <;> iassumption
  isplitl [Hl] <;> iassumption

end Cert.RowMax

end
-- ==== Proof.Run.lean ====
/-
# The whole program's run

The program is the region followed by one host operation, the relabelling of the (16, 128) result as a (2048, 1) column.
Here: the exchange's cells and payments funded at the launch and dealt to the devices, the two segments chained, and the
run: the argument is untouched, the result buffer holds the relabelled `result`, every semaphore is at zero.
-/
module

public import proofs.«01_k».proof.Proof.Region

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ Res ℕ

variable (m : (ℓ : Loc nD τ sig) → Buf (Elt F) ℓ) (ρ : Dev nD → PrngReg)

/-! ## The host operation -/

/-- A device's buffers at the end. -/
abbrev contents₂ (c : Dev nD) : Valuation τ sig (Elt F) := StableHlo.after hostOps1 (contents₁ m c)

/-- The argument is as launched. -/
theorem final_arg (c : Dev nD) : contents₂ m c (Proc.devRef .tc main_arg0) = m ((c : Thread nD τ).loc main_arg0) := by
  show StableHlo.after hostOps1 (contents₁ m c) (Proc.devRef .tc main_arg0) = _
  rw [StableHlo.after_cons, StableHlo.after_nil, StableHlo.reshape_result_ne _ _ _ _ _ _ _ (by decide)]
  exact contents₁_of_ne m c (by decide)

/-- The result is the kernel's, relabelled. -/
theorem final_out (c : Dev nD) :
    contents₂ m c (Proc.devRef .tc main_v2) = shapeCast S2048x1 (result m c) shapeCasts_S16x128_S2048x1 := by
  show StableHlo.after hostOps1 (contents₁ m c) (Proc.devRef .tc main_v2) = _
  rw [StableHlo.after_cons, StableHlo.after_nil, StableHlo.reshape_result, contents₁_out]; rfl

theorem ops_sub : ∀ op ∈ (hostOps1 : List (HloOp τ sig (Elt F))), op.bufs ⊆ Pipeline.ucRefs τ sig :=
  fun op h => Pipeline.sub_ucRefs op ((List.forall_iff_forall_mem.mp hostOps1_sub) op h)
theorem ops_fresh : ∀ op ∈ (hostOps1 : List (HloOp τ sig (Elt F))), op.fresh = ∅ :=
  fun op h => (List.forall_iff_forall_mem.mp hostOps1_fresh) op h

/-- What rides beside the buffers past the region. -/
abbrev rest (c : Dev nD) : sProp 𝕄 := iprop(left c ∗ ∃ W, owes (c : Thread nD τ) (0 : CellTallies nD τ sig Unit) W)

/-- The host operation as a segment. -/
def relabel : Pipeline.HostSeg (Name := ℕ) (U := Res) (pcfgs (F := F)) defs₀ noLoops ranked rank :=
  Pipeline.HostSeg.ofOps _ _ _ _ _ (Pipeline.ucRefs τ sig) hostOps1 ops_sub ops_fresh (contents₁ m) rest

/-- The program's two segments. -/
def segs : List (Pipeline.Seg (pcfgs (F := F)) tables (dats m) () defs₀ noLoops ranked rank) :=
  [.region (region m), .host (relabel m)]

/-! ## The cells and the payments at the launch -/

/-- The barrier cells, funded with their counters, -/
def live : Finset (GSem nD τ sig) := Finset.univ.map ⟨fun c : Dev nD => cell c 0, fun _ _ h => (cell_inj h).1⟩
/-- the send and receive cells, funded without theirs, which only the region brings, -/
def dormant : Finset (GSem nD τ sig) :=
  Finset.univ.map ⟨fun p : Dev nD × Fin 2 => cell p.1 p.2.succ, fun _ _ h => Prod.ext (cell_inj h).1 (Fin.succ_injective _ (cell_inj h).2)⟩
/-- and the one payment of each. -/
def dues : Finset (GSem nD τ sig × ℕ × Unit) :=
  Finset.univ.map ⟨fun p : Dev nD × Fin 3 => (cell p.1 p.2, 0, ()), fun _ _ h =>
    have e := cell_inj (congrArg (fun t : GSem nD τ sig × ℕ × Unit => t.1) h)
    Prod.ext e.1 e.2⟩

/-- No cell is of both kinds. -/
theorem live_dormant : Disjoint live dormant := by
  rw [Finset.disjoint_left]
  intro g h₁ h₂
  obtain ⟨c, -, rfl⟩ := Finset.mem_map.mp h₁
  obtain ⟨p, -, h⟩ := Finset.mem_map.mp h₂
  exact Fin.succ_ne_zero _ (cell_inj h).2

/-- Every cell is of one. -/
theorem cell_mem (c : Dev nD) : ∀ k : Fin 3, cell c k ∈ live ∪ dormant
  | 0 => Finset.mem_union_left _ (Finset.mem_map_of_mem _ (Finset.mem_univ c))
  | 1 => Finset.mem_union_right _ (Finset.mem_map_of_mem _ (Finset.mem_univ (c, (0 : Fin 2))))
  | 2 => Finset.mem_union_right _ (Finset.mem_map_of_mem _ (Finset.mem_univ (c, (1 : Fin 2))))

/-- The exchange's launch element, -/
def fund : URounds (GSem nD τ sig) Unit := launchOf live dormant dues
/-- and the program's: the pipeline's beside it. -/
def fundAll : Res :=
  (initOf (Pipeline.cells (Pipeline.pin (pcfgs (F := F)) tables) cellOf_inj) (Pipeline.launchToks (Pipeline.pin (pcfgs (F := F)) tables) cellOf_inj), fund)

/-- The exchange's element is kept whole with device 0 until it is dealt. -/
def purse (c : Dev nD) : sProp 𝕄 := if c = 0 then BI.own (EX fund) else iprop(emp)
theorem purse_eq : bigSep Finset.univ (purse (F := F)) = BI.own (EX fund) := by
  rw [bigSep_univ_at _ (0 : Dev nD), bigSep_congr (s := Finset.univ.erase (0 : Dev nD)) (Φ := purse (F := F)) (Ψ := fun _ => (BI.emp : sProp 𝕄))
      fun c hc => if_neg (Finset.ne_of_mem_erase hc), BI.bigSep_emp_const]
  unfold purse; rw [if_pos rfl]
  exact BI.equiv_iff.mp sep_emp

/-! ## Dealing -/

/-- What every device may consult: all invariants, all barriers at their round. -/
def ledger (K : GSem nD τ sig → ℕ) : sProp 𝕄 :=
  iprop((bigSep (live ∪ dormant) fun g => cellInv EX (plan m) (K g) g) ∗ bigSep live fun g => reached EX g 0)

instance ledger_persistent (K : GSem nD τ sig → ℕ) : BI.Persistent (ledger m K) := by unfold ledger; infer_instance

theorem ledger_inv (K : GSem nD τ sig → ℕ) (c : Dev nD) (k : Fin 3) : ledger m K ⊢ cellInv EX (plan m) (K (cell c k)) (cell c k) := by
  have h : (bigSep (live ∪ dormant) fun g => (cellInv EX (plan m) (K g) g : sProp 𝕄)) ⊢ cellInv EX (plan m) (K (cell c k)) (cell c k) :=
    bigSep_elim (cell_mem c k)
  unfold ledger
  iintro ⟨H, -⟩
  iapply h $$ H
theorem ledger_reached (K : GSem nD τ sig → ℕ) (c : Dev nD) : ledger m K ⊢ reached EX (cell c 0) 0 := by
  have h : (bigSep live fun g => (reached EX g 0 : sProp 𝕄)) ⊢ reached EX (cell c 0) 0 :=
    bigSep_elim (show cell c 0 ∈ live from Finset.mem_map_of_mem _ (Finset.mem_univ c))
  unfold ledger
  iintro ⟨-, H⟩
  iapply h $$ H

/-- What is one device's alone. -/
def portion (c : Dev nD) : sProp 𝕄 :=
  iprop(atPos EX (cell c 0) 0 ∅ 0 ∗ (openTok EX (cell c 1) ∗ openTok EX (cell c 2)) ∗ rights c)

/-- With the ledger, a portion is what the region wants of the launch. -/
theorem deal (K : GSem nD τ sig → ℕ) (c : Dev nD) : iprop(ledger m K ∗ portion c) ⊢ iprop(∃ K, dealt m K c) := by
  unfold portion dealt invs
  iintro ⟨#HL, Hp, Ho, Hr⟩
  iexists K
  isplitr
  · isplitr
    · isplitr; · iapply (ledger_inv m K c 0); iexact HL
      isplitr; · iapply (ledger_inv m K c 1); iexact HL
      iapply (ledger_inv m K c 2); iexact HL
    isplitr; · iapply (ledger_inv m K (mate c) 0); iexact HL
    iapply (ledger_inv m K (mate c) 2); iexact HL
  isplitl [Hp]; · iexact Hp
  isplitl [Ho]; · iexact Ho
  isplitr; · iapply (ledger_reached m K (mate c)); iexact HL
  iexact Hr

/-- The payments of the barrier and receive cells go to the partners, who make them. -/
theorem hand_out : bigSep dues (fun t => (dutyTok EX t.1 t.2.1 t.2.2 : sProp 𝕄)) ⊢ bigSep Finset.univ fun c : Dev nD => rights (F := F) c := by
  refine Entails.of_eq ?_
  unfold dues rights
  rw [bigSep_map, bigSep_univ_prod]
  rw [bigSep_congr (s := Finset.univ) (Ψ := fun c : Dev nD =>
      (iprop(dutyTok EX (cell c 0) 0 () ∗ dutyTok EX (cell c 1) 0 () ∗ dutyTok EX (cell c 2) 0 ()) : sProp 𝕄))
    fun c _ => bigSep_univ_eq_bigSepL [(0 : Fin 3), 1, 2] (by decide) (by decide) _]
  rw [bigSep_sep', bigSep_sep', bigSep_sep', bigSep_sep', bigSep_univ_equiv swap (fun c : Dev nD => (dutyTok EX (cell c 0) 0 () : sProp 𝕄)),
    bigSep_univ_equiv swap (fun c : Dev nD => (dutyTok EX (cell c 2) 0 () : sProp 𝕄))]
  rfl

/-! ## The credits of the launch -/

/-- Only the partner is the partner. -/
theorem mate_eq {c d : Dev nD} : c = mate d ↔ d = mate c := ⟨fun h => by rw [h, mate_mate], fun h => by rw [h, mate_mate]⟩

/-- Device `d` owes device `c`'s barrier one unit if it is the partner; -/
theorem owed_bar (d c : Dev nD) : debt d (cell c 0) () = if d = mate c then 1 else 0 := by
  unfold debt
  rw [Pi.add_apply, Finsupp.add_apply, tallyAt_ne_cell (fun h => absurd (cell_inj h).2 (by decide)), Finsupp.zero_apply, Nat.zero_add, tallyAt_apply]
  exact if_congr ⟨fun h => mate_eq.mp (cell_inj h.1).1, fun h => ⟨by rw [mate_eq.mpr h], rfl⟩⟩ rfl rfl

/-- and its receive semaphore the landed bytes. -/
theorem owed_recv (d c : Dev nD) : debt d (cell c 2) () = if d = mate c then credit else 0 := by
  unfold debt
  rw [Pi.add_apply, Finsupp.add_apply, tallyAt_apply, tallyAt_ne_cell (fun h => absurd (cell_inj h).2 (by decide)), Finsupp.zero_apply, Nat.add_zero]
  exact if_congr ⟨fun h => mate_eq.mp (cell_inj h.1).1, fun h => ⟨by rw [mate_eq.mpr h], rfl⟩⟩ rfl rfl

/-- So a cell that every device `d` owes `n` if it is the partner, else nothing, is credited `n` at the launch. -/
theorem credited (c : Dev nD) (k : Fin 3) (n : ℕ) (h : ∀ d, debt d (cell c k) () = if d = mate c then n else 0) :
    tallyOn (cell c k) (launchCredit (Pipeline.owing debt) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

theorem launch_claims (c : Dev nD) : (Pipeline.launchCred debt c : sProp 𝕄) ⊢ claims c := by
  unfold Pipeline.launchCred claims
  rw [bigSep_univ_at _ (line 0), credited c 0 1 (owed_bar · c)]
  refine sep_mono_right ?_
  rw [← credited c 2 credit (owed_recv · c)]
  exact bigSep_elim (Finset.mem_erase.mpr ⟨fun h => absurd (line_inj h) (by decide), Finset.mem_univ (line 2)⟩)

/-! ## The first thread states -/

/-- The one semaphore that is not the region's is the barrier. -/
theorem unscoped_is_bar : ∀ s : SemLoc sig, s.isScoped .tc = false → s = line 0 := by decide

theorem unscoped_zero (c : Dev nD) : (unscopedSems0 c : sProp 𝕄) = semVal (cell c 0) 0 := by
  unfold unscopedSems0
  rw [show (Finset.univ.filter fun s : SemLoc sig => ¬ s.isScoped .tc) = {line 0} from by decide, BI.bigSep_singleton]

/-- What a device starts from, -/
abbrev first (c : Dev nD) : sProp 𝕄 :=
  iprop(StableHlo.held (c : Thread nD τ) (Pipeline.ucRefs τ sig) (contents₀ m c) ∗ (∃ r, prngReg c r) ∗ kept m c ∗ ∃ W, owes (c : Thread nD τ) (debt c) W)
/-- and ends in. -/
abbrev last (c : Dev nD) : sProp 𝕄 := iprop(StableHlo.held (c : Thread nD τ) (Pipeline.ucRefs τ sig) (contents₂ m c) ∗ left c)

/-- Of what the launch gives a device, all but the exchange's state. -/
def plain (c : Dev nD) : sProp 𝕄 :=
  iprop(StableHlo.held (c : Thread nD τ) (Pipeline.ucRefs τ sig) (contents₀ m c) ∗ (∃ r, prngReg c r) ∗ claims c ∗ owes (c : Thread nD τ) (debt c) ∅)

theorem first_intro (K : GSem nD τ sig → ℕ) (c : Dev nD) : iprop(ledger m K ∗ (portion c ∗ plain m c)) ⊢ first m c := by
  unfold plain first kept
  iintro ⟨#HL, Hp, Hh, Hr, Hc, HO⟩
  isplitl [Hh]; · iexact Hh
  isplitl [Hr]; · iexact Hr
  isplitl [Hp Hc]
  · isplitl [Hp]
    · iapply (deal m K c)
      isplitr; · iexact HL
      iexact Hp
    iexact Hc
  iexists ∅; iexact HO

/-- What the launch gives one device. -/
abbrev given (c : Dev nD) : sProp 𝕄 :=
  iprop(unscopedBufs c (fun b => m ((c : Thread nD τ).loc b)) ∗ unscopedSems0 c ∗ owes (c : Thread nD τ) (debt c) ∅
    ∗ Pipeline.launchCred debt c ∗ prngReg c (ρ c) ∗ purse c)

/-- Sorted: the plain part, the barrier's counter, the purse. -/
theorem sort (c : Dev nD) : given m ρ c ⊢ iprop(plain m c ∗ (semVal (cell c 0) 0 ∗ purse c)) := by
  unfold given
  rw [show (unscopedBufs c (fun b => m ((c : Thread nD τ).loc b)) : sProp 𝕄) = StableHlo.held (c : Thread nD τ) (Pipeline.ucRefs τ sig) (contents₀ m c)
    from Pipeline.unscopedBufs_held c (contents₀ m c), unscoped_zero]
  unfold plain
  iintro ⟨Hh, Hz, HO, Hc, Hr, HG⟩
  isplitr [Hz HG]
  · isplitl [Hh]; · iexact Hh
    isplitl [Hr]; · iexists (ρ c); iexact Hr
    isplitl [Hc]; · iapply (launch_claims c) $$ Hc
    iexact HO
  isplitl [Hz] <;> iassumption

/-- Everything the launch gives, made into every device's start. -/
theorem init : iprop((bigSep Finset.univ (given m ρ)) ∗ levAts ranked rank) ⊢ (|={Set.univ}=> bigSep Finset.univ (first m) : sProp 𝕄) := by
  have hz : bigSep Finset.univ (fun c : Dev nD => (semVal (cell c 0) 0 : sProp 𝕄)) ⊢ bigSep live (fun g => (semVal g 0 : sProp 𝕄)) :=
    Entails.of_eq (by unfold live; rw [bigSep_map]; rfl)
  have hp : bigSep live (fun g => (atPos EX g 0 ∅ 0 : sProp 𝕄)) ⊢ bigSep Finset.univ (fun c : Dev nD => (atPos EX (cell c 0) 0 ∅ 0 : sProp 𝕄)) :=
    Entails.of_eq (by unfold live; rw [bigSep_map]; rfl)
  have ho : bigSep dormant (fun g => (openTok EX g : sProp 𝕄))
      ⊢ bigSep Finset.univ (fun c : Dev nD => iprop(openTok EX (cell c 1) ∗ openTok EX (cell c 2))) :=
    Entails.of_eq (by
      unfold dormant; rw [bigSep_map, bigSep_univ_prod]
      exact bigSep_congr fun c _ => BI.bigSep_fin_two (fun k : Fin 2 => (openTok EX (cell c k.succ) : sProp 𝕄)))
  have hs : bigSep Finset.univ (given m ρ)
      ⊢ iprop(bigSep Finset.univ (plain m) ∗ bigSep Finset.univ (fun c : Dev nD => (semVal (cell c 0) 0 : sProp 𝕄)) ∗ bigSep Finset.univ purse) := by
    have e : (bigSep Finset.univ fun c : Dev nD => (iprop(plain m c ∗ (semVal (cell c 0) 0 ∗ purse c)) : sProp 𝕄))
        = iprop(bigSep Finset.univ (plain m) ∗ bigSep Finset.univ (fun c : Dev nD => semVal (cell c 0) 0) ∗ bigSep Finset.univ purse) := by
      rw [bigSep_sep', bigSep_sep']
    exact BIBase.Entails.trans (bigSep_mono fun c _ => sort m ρ c) (Entails.of_eq e)
  iintro ⟨H, -⟩
  ihave H := hs $$ H
  icases H with ⟨Hpl, Hz, Hu⟩
  ihave Hu := (Entails.of_eq (purse_eq (F := F))) $$ Hu
  imod (Rounds.fund_launch EX (plan m) live_dormant (fun g _ h => h) dues) $$ [Hz Hu] with ⟨%K, -, #Hinv, #Hre, Hat, Hop, Htok⟩
  · isplitl [Hz]
    · iapply hz $$ Hz
    · iexact Hu
  imodintro
  iapply (bigSep_with_persistent (R := ledger m K) (Φ := fun c => iprop(portion c ∗ plain m c)) fun c _ => first_intro m K c)
  isplitr
  · unfold ledger
    isplitr; · iexact Hinv
    iexact Hre
  iapply (Entails.of_eq (show (iprop((bigSep Finset.univ (fun c : Dev nD => atPos EX (cell c 0) 0 ∅ 0)
      ∗ bigSep Finset.univ (fun c : Dev nD => iprop(openTok EX (cell c 1) ∗ openTok EX (cell c 2))) ∗ bigSep Finset.univ (fun c : Dev nD => rights c))
      ∗ bigSep Finset.univ (plain m)) : sProp 𝕄) = bigSep Finset.univ fun c : Dev nD => iprop(portion c ∗ plain m c) from by
    unfold portion; simp only [bigSep_sep']))
  isplitr [Hpl]
  · isplitl [Hat]; · iapply hp $$ Hat
    isplitl [Hop]; · iapply ho $$ Hop
    iapply (hand_out (F := F)) $$ Htok
  · iexact Hpl

/-! ## The run -/

/-- A device's unscoped buffers, one by one. -/
theorem held_three (c : Dev nD) (V : Valuation τ sig (Elt F)) :
    (StableHlo.held (c : Thread nD τ) (Pipeline.ucRefs τ sig) V : sProp 𝕄)
      = iprop((((c : Thread nD τ).loc main_arg0) ↦{fullShare} V (Proc.devRef .tc main_arg0))
        ∗ (((c : Thread nD τ).loc main_v1) ↦{fullShare} V (Proc.devRef .tc main_v1))
        ∗ (((c : Thread nD τ).loc main_v2) ↦{fullShare} V (Proc.devRef .tc main_v2))) := by
  unfold StableHlo.held
  rw [bigSep_eq_bigSepL_of_eq [Proc.devRef .tc main_arg0, Proc.devRef .tc main_v1, Proc.devRef .tc main_v2] (by decide) (by decide)]
  rfl

set_option backward.isDefEq.respectTransparency.types false in
/-- THE RUN: from any memory with all semaphores at zero, every fair execution on the four devices ends; at the end every
    device's argument is as it was, its result is the relabelled `result`, and every semaphore is at zero. -/
theorem run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = shapeCast S2048x1 (result m c) shapeCasts_S16x128_S2048x1) ∧ r.2.sem = fun _ => 0) :=
  Pipeline.θ_run_regions_kit_sems (pcfgs (F := F)) tables (dats m) () cellOf_inj EP defs₀ noLoops ranked rank m ρ main (segs m)
    (fun c Q => by rw [main_segs tables (dats m) () noLoops ranked rank (relabel m) (region m) rfl c]; exact BI.Entails.refl _)
    (by simp only [segs, Pipeline.Seg.pipes_host, Pipeline.Seg.pipes_region, Pipeline.Seg.pipes_nil]; decide)
    (O₀ := debt) (hL := ranked_none) (G := purse) (u₀ := fundAll (F := F))
    (hu₀ := by
      unfold fundAll
      iintro Hu
      ihave H := (ownU_pair _ _) $$ Hu
      icases H with ⟨HP, HX⟩
      imodintro
      isplitl [HP]; · iexact HP
      rw [purse_eq]; iexact HX)
    (T₀ := first m) (Tₙ := last m)
    (hch := by
      refine ⟨fun c => region_pre m c, fun c => region_post m c, fun c => ?_⟩
      show iprop(StableHlo.held (c : Thread nD τ) (Pipeline.ucRefs τ sig) (contents₂ m c)
          ∗ (left c ∗ ∃ W, owes (c : Thread nD τ) (0 : CellTallies nD τ sig Unit) W))
        ⊢ iprop(last m c ∗ ∃ W, owes (c : Thread nD τ) (0 : CellTallies nD τ sig Unit) W)
      iintro ⟨Hh, Hl, HO⟩
      isplitr [HO]
      · isplitl [Hh] <;> iassumption
      · iexact HO)
    (hinit := init m ρ)
    (QY := fun c s => (s.mem ((c : Thread nD τ).loc main_arg0) = contents₂ m c (Proc.devRef .tc main_arg0)
        ∧ s.mem ((c : Thread nD τ).loc main_v2) = contents₂ m c (Proc.devRef .tc main_v2)) ∧ s.sem (cell c 0) = 0)
    (hfin := fun c s' => by
      dsimp only [last]; rw [held_three]; unfold left
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => by
        obtain ⟨⟨hx, hy⟩, -⟩ := h c
        exact ⟨hx.trans (final_arg m c), hy.trans (final_out m c)⟩,
      sem_eq_zero hs fun c sm hsm => by
        obtain rfl := unscoped_is_bar sm hsm
        exact (h c).2⟩)

end Cert.RowMax

end
-- ==== Proof.Value.lean ====
/-
# The value of the result

Over the extended reals: the maximum of a row of the whole array is the larger of the maxima of its two halves, one half
in a device's block, the other in its partner's. So each device's `result`, relabelled as a column, is its block of the
column of row maxima of the whole array.
-/
module

public import proofs.«01_k».proof.Proof.Run
public import proofs.«01_k».proof.Proof.Gen.ReferenceIdeal.Run
public import Idealize.ShloMosaic.Lib.Layout
public import Idealize.ShloMosaic.Lib.Pipeline.Value
public import Idealize.ShloMosaic.Lib.Pointwise.Index
public import Idealize.ShloMosaic.Lib.Pointwise.Reduce
public import Idealize.ShloMosaic.Lib.Pointwise.Reshape
public import Idealize.ShloMosaic.PureOps.Ideal.Laws

@[expose] public section

noncomputable section

namespace Cert.RowMax

open Cert.KernelIdeal Cert.KernelIdeal.Gen
open Idealize.ShloMosaic Idealize.ShloMosaic.TcCoe

/-- The number every maximum starts from. -/
abbrev least : Ideal .f32 := FloatOps.ofBits .f32 0xFF800000#32

/-- The largest of `n` numbers and `least`. -/
def most {n : ℕ} (f : Fin n → EReal) : EReal := (Finset.univ : Finset (Fin n)).fold max (least : EReal) f

/-- It is at most `z` exactly when all of them are. -/
theorem most_le {n : ℕ} (f : Fin n → EReal) (z : EReal) : most f ≤ z ↔ (least : EReal) ≤ z ∧ ∀ k, f k ≤ z := by
  unfold most; rw [Finset.fold_max_le]; simp only [Finset.mem_univ, true_implies]

/-- Of a list's entries picked in two lots that together miss none, the larger of the lots' maxima is the list's. -/
theorem most_of_lots {n k : ℕ} (f : Fin n → EReal) (p q : Fin k → Fin n) (h : ∀ i, ∃ j, i = p j ∨ i = q j) :
    max (most fun j => f (p j)) (most fun j => f (q j)) = most f := by
  refine eq_of_forall_ge_iff fun z => ?_
  rw [max_le_iff, most_le, most_le, most_le]
  constructor
  · rintro ⟨⟨hz, hp⟩, -, hq⟩
    refine ⟨hz, fun i => ?_⟩
    obtain ⟨j, rfl | rfl⟩ := h i
    · exact hp j
    · exact hq j
  · exact fun ⟨hz, hf⟩ => ⟨⟨hz, fun j => hf _⟩, hz, fun j => hf _⟩

/-! ## Where a device's block lies -/

/-- Row `i` of device `c`'s block is this row of the whole array, -/
def row (c : Dev nD) (i : Fin 2048) : Fin 4096 := ⟨c.val / 2 * 2048 + i.val, by have := c.isLt; simp only [nD] at this; omega⟩
/-- and column `k` this column. -/
def col (c : Dev nD) (k : Fin 1024) : Fin 2048 := ⟨c.val % 2 * 1024 + k.val, by omega⟩

/-- Partners hold the same rows, -/
theorem row_mate (c : Dev nD) (i : Fin 2048) : row (mate c) i = row c i := by
  apply Fin.ext
  show (2 * (c.val / 2) + (1 - c.val % 2)) / 2 * 2048 + i.val = c.val / 2 * 2048 + i.val
  omega
/-- and between them all columns. -/
theorem col_lots (c : Dev nD) (i : Fin 2048) : ∃ k, i = col c k ∨ i = col (mate c) k := by
  refine ⟨⟨i.val % 1024, Nat.mod_lt _ (by decide)⟩, ?_⟩
  have hi := i.isLt
  have h : i.val = c.val % 2 * 1024 + i.val % 1024 ∨ i.val = (2 * (c.val / 2) + (1 - c.val % 2)) % 2 * 1024 + i.val % 1024 := by omega
  exact h.imp Fin.ext Fin.ext

/-- Device `c` of the mesh stands at `(c / 2, c % 2)`: the blocks of the argument, -/
theorem at_mesh : ∀ c : Dev nD, (Layout.meshBlock [2, 2] ![[0], [1]] c (by decide) 0).val = c.val / 2 ∧ (Layout.meshBlock [2, 2] ![[0], [1]] c (by decide) 1).val = c.val % 2 := by
  decide
/-- and of the result. -/
theorem at_mesh_out : ∀ c : Dev nD, (Layout.meshBlock [2, 2] ![[0], []] c (by decide) 0).val = c.val / 2 := by decide

/-- The part of the whole array a device's argument holds, entry by entry. -/
theorem part_at {α : Type} (v : (⟨2, ![4096, 2048]⟩ : Shape).Idx → α) (c : Dev nD) (i : Fin 2048) (k : Fin 1024) :
    Layout.blockN ⟨2, ![2048, 1024]⟩ ⟨2, ![4096, 2048]⟩ (Layout.meshBlock [2, 2] ![[0], [1]] c) v (by decide) (ix2 i k) = v (ix2 (row c i) (col c k)) := by
  rw [Layout.blockN_apply]
  refine congrArg v (funext fun a => Fin.ext ?_)
  match a with
  | ⟨0, _⟩ => exact congrArg (· * 2048 + i.val) (at_mesh c).1
  | ⟨1, _⟩ => exact congrArg (· * 1024 + k.val) (at_mesh c).2

/-! ## The kernel's maxima -/

variable (m : (ℓ : Loc nD τ sig) → Buf (Elt Ideal) ℓ)

/-- The reduction's entries are maxima along the last axis. -/
theorem reduce_at (x : FVec Ideal S16x128x1024 .f32) (a : Fin 16) (b : Fin 128) :
    k0_pay2 (F := Ideal) x (ix2 a b) = most fun k : Fin 1024 => x (ix3 a b k) := by
  unfold k0_pay2
  dsimp only
  rw [shapeCast_id]
  exact (multiReduction_maximumf_eq_fold (F := Ideal) x _ _ _ _ _).trans
    (Shape.Reduces.fold_fiber_r3_a2 reduces_S16x128x1024_S16x128 (ix2 a b) (FloatOps.maximumf (F := Ideal) (φ := .f32)) _ x)

/-- The last step takes the larger, entry by entry. -/
theorem larger_at (x y : FVec Ideal S16x128 .f32) (j : S16x128.Idx) : k0_pay1 (F := Ideal) (k0_pay3 x) y j = max (x j : EReal) (y j) := by
  unfold k0_pay1 k0_pay3
  dsimp only
  rw [shapeCast_id]
  rfl

/-- Entry `(a, b)` of a device's maxima is that of row `128 a + b` of its block. -/
theorem maxima_at (c : Dev nD) (a : Fin 16) (b : Fin 128) :
    maxima m c (ix2 a b) = most fun k : Fin 1024 => m ((c : Thread nD τ).loc main_arg0) (ix2 (⟨128 * a.val + b.val, by omega⟩ : Fin 2048) k) := by
  have hread : ∀ k : Fin 1024, inG.view.readAt (Elt Ideal) wholeIn.toLoadRect (block m c) (ix3 a b k)
      = m ((c : Thread nD τ).loc main_arg0) (ix2 (⟨128 * a.val + b.val, by omega⟩ : Fin 2048) k) := by
    intro k
    have hwhole : wholeIn.toLoadRect.idx (ix3 a b k) = ix3 a b k := by
      funext x; apply Fin.ext
      match x with
      | ⟨0, _⟩ => show 0 + 1 * a.val = a.val; omega
      | ⟨1, _⟩ => show 0 + 1 * b.val = b.val; omega
      | ⟨2, _⟩ => show 0 + 1 * k.val = k.val; omega
    rw [block_eq, View.readAt_apply, View.read_apply, hwhole]
    refine congrArg (m ((c : Thread nD τ).loc main_arg0)) (Shape.reshapeEquiv_eq_of_rowMajor (s := S2048x1024) (s' := S16x128x1024) rfl ?_)
    rw [Shape.rowMajor_val_two, Shape.rowMajor_val_three]
    show (128 * a.val + b.val) * 1024 + k.val = (a.val * 128 + b.val) * 1024 + k.val
    omega
  unfold maxima
  refine (reduce_at _ a b).trans ?_
  exact congrArg (fun f => most f) (funext fun k => hread k)

/-- Entry `i` of a device's relabelled result is the maximum of its row of the whole array, if its argument is its part. -/
theorem result_at (v : (⟨2, ![4096, 2048]⟩ : Shape).Idx → EReal)
    (h : ∀ c : Dev nD, m ((c : Thread nD τ).loc main_arg0) = Layout.blockN ⟨2, ![2048, 1024]⟩ ⟨2, ![4096, 2048]⟩ (Layout.meshBlock [2, 2] ![[0], [1]] c) v)
    (c : Dev nD) (i : Fin 2048) :
    shapeCast S2048x1 (result m c) shapeCasts_S16x128_S2048x1 (ix2 i 0) = most fun k : Fin 2048 => v (ix2 (row c i) k) := by
  have hi := i.isLt
  have hrow : (⟨128 * (i.val / 128) + i.val % 128, by omega⟩ : Fin 2048) = i := Fin.ext (Nat.div_add_mod i.val 128)
  have hpart : ∀ d : Dev nD, row d i = row c i →
      maxima m d (ix2 (⟨i.val / 128, by omega⟩ : Fin 16) (⟨i.val % 128, by omega⟩ : Fin 128)) = most fun k => v (ix2 (row c i) (col d k)) := by
    intro d hd
    rw [maxima_at]
    refine congrArg (fun f => most f) (funext fun k => ?_)
    rw [h d, ← hd]
    exact (congrArg _ (congrArg (fun r => ix2 r k) hrow)).trans (part_at v d i k)
  have hpos : (S16x128.rowMajor (ix2 (⟨i.val / 128, by omega⟩ : Fin 16) (⟨i.val % 128, by omega⟩ : Fin 128))).val = (S2048x1.rowMajor (ix2 i 0)).val := by
    rw [Shape.rowMajor_val_two, Shape.rowMajor_val_two]
    show i.val / 128 * 128 + i.val % 128 = i.val * 1 + 0
    omega
  refine (shapeCast_apply (result m c) shapeCasts_S16x128_S2048x1 (ix2 i 0) _ hpos).trans ?_
  unfold result landed
  refine (larger_at (maxima m c) (maxima m (mate c)) _).trans ?_
  rw [hpart c rfl, hpart (mate c) (row_mate c i)]
  exact most_of_lots (fun k => v (ix2 (row c i) k)) (col c) (col (mate c)) (col_lots c)

/-! ## The reference's value -/

/-- The reference's result of the whole array. -/
abbrev wanted (v : (⟨2, ![4096, 2048]⟩ : Shape).Idx → EReal) : (⟨2, ![4096, 1]⟩ : Shape).Idx → EReal :=
  broadcastInDim Cert.ReferenceIdeal.S4096x1 ![0] Cert.ReferenceIdeal.Facts₀.bcast_S4096_S4096x1_0
    (Host.reduce (FloatOps.maximumf (F := Ideal) (φ := .f32)) v (constant (F := Ideal) Cert.ReferenceIdeal.S_ .f32 0xFF800000#32)
      Cert.ReferenceIdeal.Facts₀.reducesTo_S4096x2048_S4096_d1 Cert.ReferenceIdeal.Facts₀.h_S_)

/-- It is the column of row maxima. -/
theorem wanted_at (v : (⟨2, ![4096, 2048]⟩ : Shape).Idx → EReal) (i : Fin 4096) : wanted v (ix2 i 0) = most fun k : Fin 2048 => v (ix2 i k) := by
  unfold wanted
  rw [broadcastInDim_apply (k := ix1 i) (hk := fun a => by match a with | ⟨0, _⟩ => rfl), Host.reduce_eq_fold, Shape.ReducesTo.fold_fiber_r2_a1]
  rfl

/-- Each device's relabelled result is its part of it. -/
theorem result_part (v : (⟨2, ![4096, 2048]⟩ : Shape).Idx → EReal)
    (h : ∀ c : Dev nD, m ((c : Thread nD τ).loc main_arg0) = Layout.blockN ⟨2, ![2048, 1024]⟩ ⟨2, ![4096, 2048]⟩ (Layout.meshBlock [2, 2] ![[0], [1]] c) v)
    (c : Dev nD) :
    shapeCast S2048x1 (result m c) shapeCasts_S16x128_S2048x1
      = Layout.blockN ⟨2, ![2048, 1]⟩ ⟨2, ![4096, 1]⟩ (Layout.meshBlock [2, 2] ![[0], []] c) (wanted v) := by
  funext j
  obtain ⟨i, rfl⟩ : ∃ i : Fin 2048, j = ix2 i 0 := ⟨j 0, funext fun a => match a with | ⟨0, _⟩ => rfl | ⟨1, _⟩ => Subsingleton.elim (α := Fin 1) _ _⟩
  rw [result_at m v h, Layout.blockN_apply, ← wanted_at]
  refine congrArg (wanted v) (funext fun a => Fin.ext ?_)
  match a with
  | ⟨0, _⟩ => exact (congrArg (· * 2048 + i.val) (at_mesh_out c)).symm
  | ⟨1, _⟩ => exact (congrArg Fin.val (Subsingleton.elim (α := Fin 1) _ _) : _)

end Cert.RowMax

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Run
public import proofs.«01_k».proof.Proof.Value
public import Idealize.ShloMosaic.Lib.Quiescent

@[expose] public section

noncomputable section

namespace Cert.Proof

open Idealize.ShloMosaic Idealize.SL.Sem

/-- The kernel ends, leaves its argument as it was and every semaphore at zero, whatever the floats are. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0 :=
  (θ_run Cert.KernelIdeal.defs _ _).mono (fun _ h => ⟨fun c => (h.1 c).1, h.2⟩) (Cert.RowMax.run m ρ)

/-- The idealized program's kernel table is the program's own: no operation was replaced. -/
theorem bodies_same {F : FTy → Type} [FloatOps F] : Cert.Kernel.defs₀ (F := F) = Cert.KernelIdeal.defs₀ := by
  refine congrArg Defs.onTc ?_
  funext l x
  match l, x with
  | ⟨0, _⟩, (t, s) => rfl
  | ⟨_ + 1, h⟩, _ => exact absurd h (Nat.not_lt.2 (Nat.le_add_left _ _))
/-- So is its whole table. -/
theorem tables_same {F : FTy → Type} [FloatOps F] : Cert.Kernel.defs (F := F) = Cert.KernelIdeal.defs :=
  congrArg (Pipeline.defs Cert.KernelIdeal.pcfgs) bodies_same

/-- At machine floats, where the idealized program is the program itself, -/
theorem frame_kernel : Cert.quiescent_Kernel := fun m ρ _ => by
  rw [tables_same]
  exact frame (F := Bits) m ρ
/-- and at the extended reals. -/
theorem frame_ideal : Cert.quiescent_KernelIdeal := fun m ρ _ => frame (F := Ideal) m ρ

/-- And the reference, which has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- From a whole array on the reference's device and its parts on the kernel's four, the kernel ends with the parts of what
    the reference ends with: the maxima of the array's rows. -/
theorem values_agree : Cert.algebraic_KernelIdeal_ReferenceIdeal := fun m ρ m' ρ' _ hparts =>
  ⟨Cert.RowMax.wanted (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c).2).trans (Cert.RowMax.result_part m _ hparts c), (h.1 c).1⟩) (Cert.RowMax.run (F := Ideal) m ρ),
    (θ_run Cert.ReferenceIdeal.defs _ _).mono (fun _ h => h 0) (Cert.ReferenceIdeal.Value.run (F := Ideal) m' ρ')⟩

/-- All that is claimed. -/
theorem claim : Cert.Claim :=
  ⟨Cert.Kernel.Gen.facts, Cert.KernelIdeal.Gen.facts, Cert.ReferenceIdeal.Gen.facts,
    frame_kernel, frame_ideal, frame_reference, trivial, values_agree⟩

end Cert.Proof

end
